-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x128 : Shape := ⟨2, ![128, 128]⟩
abbrev S128x128x8 : Shape := ⟨3, ![128, 128, 8]⟩
abbrev S512x128 : Shape := ⟨2, ![512, 128]⟩
abbrev S128x8x128 : Shape := ⟨3, ![128, 8, 128]⟩
abbrev S128x1024 : Shape := ⟨2, ![128, 1024]⟩
abbrev S1024 : Shape := ⟨1, ![1024]⟩
abbrev S_ : Shape := ⟨0, ![]⟩
abbrev S1x1x1024 : Shape := ⟨3, ![1, 1, 1024]⟩
abbrev S4 : Shape := ⟨1, ![4]⟩
abbrev S4x1x1 : Shape := ⟨3, ![4, 1, 1]⟩
abbrev S4x1x1024 : Shape := ⟨3, ![4, 1, 1024]⟩
abbrev S1x128x1024 : Shape := ⟨3, ![1, 128, 1024]⟩
abbrev S4x128x1024 : Shape := ⟨3, ![4, 128, 1024]⟩
abbrev S512x1024 : Shape := ⟨2, ![512, 1024]⟩
abbrev S256x128 : Shape := ⟨2, ![256, 128]⟩
abbrev S256x512 : Shape := ⟨2, ![256, 512]⟩
abbrev S256x1024 : Shape := ⟨2, ![256, 1024]⟩

abbrev nBuf : Space → Nat
  | .hbm => 63
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S128x128, .f32⟩
  | .hbm, ⟨2, _⟩ => ⟨S128x128x8, .f32⟩
  | .hbm, ⟨3, _⟩ => ⟨S512x128, .f32⟩
  | .hbm, ⟨4, _⟩ => ⟨S128x8x128, .f32⟩
  | .hbm, ⟨5, _⟩ => ⟨S128x1024, .f32⟩
  | .hbm, ⟨6, _⟩ => ⟨S1024, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S_, .i1⟩
  | .hbm, ⟨23, _⟩ => ⟨S1024, .i1⟩
  | .hbm, ⟨24, _⟩ => ⟨S1024, .i1⟩
  | .hbm, ⟨25, _⟩ => ⟨S1024, .i1⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S1x1x1024, .i32⟩
  | .hbm, ⟨48, _⟩ => ⟨S4, .i32⟩
  | .hbm, ⟨49, _⟩ => ⟨S4x1x1, .i32⟩
  | .hbm, ⟨50, _⟩ => ⟨S4x1x1024, .i32⟩
  | .hbm, ⟨51, _⟩ => ⟨S4x1x1024, .i32⟩
  | .hbm, ⟨52, _⟩ => ⟨S4x1x1024, .i1⟩
  | .hbm, ⟨53, _⟩ => ⟨S1x128x1024, .f32⟩
  | .hbm, ⟨54, _⟩ => ⟨S_, .f32⟩
  | .hbm, ⟨55, _⟩ => ⟨S_, .f32⟩
  | .hbm, ⟨56, _⟩ => ⟨S4x128x1024, .i1⟩
  | .hbm, ⟨57, _⟩ => ⟨S4x128x1024, .f32⟩
  | .hbm, ⟨58, _⟩ => ⟨S4x128x1024, .f32⟩
  | .hbm, ⟨59, _⟩ => ⟨S4x128x1024, .f32⟩
  | .hbm, ⟨60, _⟩ => ⟨S512x1024, .f32⟩
  | .hbm, ⟨61, _⟩ => ⟨S128x128, .f32⟩
  | .hbm, ⟨62, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S128x128, .f32⟩
  | .local _ .vmem, ⟨3, _⟩ => ⟨S512x1024, .f32⟩
  | .local _ .vmem, ⟨4, _⟩ => ⟨S512x128, .f32⟩
  | .local _ .vmem, ⟨5, _⟩ => ⟨S256x128, .f32⟩
  | .local _ .vmem, ⟨6, _⟩ => ⟨S256x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v3 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst_1 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2048x128 : Shape := ⟨2, ![2048, 128]⟩
abbrev S128x128 : Shape := ⟨2, ![128, 128]⟩
abbrev S128x128x8 : Shape := ⟨3, ![128, 128, 8]⟩
abbrev S4x4 : Shape := ⟨2, ![4, 4]⟩
abbrev S_ : Shape := ⟨0, ![]⟩
abbrev S2048x128x1 : Shape := ⟨3, ![2048, 128, 1]⟩
abbrev S4 : Shape := ⟨1, ![4]⟩
abbrev S1x1x4 : Shape := ⟨3, ![1, 1, 4]⟩
abbrev S2048x128x4 : Shape := ⟨3, ![2048, 128, 4]⟩
abbrev S128 : Shape := ⟨1, ![128]⟩
abbrev S1x128x1 : Shape := ⟨3, ![1, 128, 1]⟩
abbrev S2048x128x4x1 : Shape := ⟨4, ![2048, 128, 4, 1]⟩
abbrev S2048x128x4x2 : Shape := ⟨4, ![2048, 128, 4, 2]⟩
abbrev S128x2048x128x4 : Shape := ⟨4, ![128, 2048, 128, 4]⟩
abbrev S2048x128x128x4 : Shape := ⟨4, ![2048, 128, 128, 4]⟩
abbrev S2048x128x4x128 : Shape := ⟨4, ![2048, 128, 4, 128]⟩

abbrev nBuf : Space → Nat
  | .hbm => 93
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S128x128, .f32⟩
  | .hbm, ⟨2, _⟩ => ⟨S128x128x8, .f32⟩
  | .hbm, ⟨3, _⟩ => ⟨S4x4, .f32⟩
  | .hbm, ⟨4, _⟩ => ⟨S2048x128, .f32⟩
  | .hbm, ⟨5, _⟩ => ⟨S2048x128, .f32⟩
  | .hbm, ⟨6, _⟩ => ⟨S_, .f32⟩
  | .hbm, ⟨7, _⟩ => ⟨S2048x128, .f32⟩
  | .hbm, ⟨8, _⟩ => ⟨S2048x128, .f32⟩
  | .hbm, ⟨9, _⟩ => ⟨S_, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S128x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S_, .f32⟩
  | .hbm, ⟨19, _⟩ => ⟨S2048x128, .f32⟩
  | .hbm, ⟨20, _⟩ => ⟨S2048x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S_, .f32⟩
  | .hbm, ⟨30, _⟩ => ⟨S2048x128, .f32⟩
  | .hbm, ⟨31, _⟩ => ⟨S2048x128, .f32⟩
  | .hbm, ⟨32, _⟩ => ⟨S_, .f32⟩
  | .hbm, ⟨33, _⟩ => ⟨S2048x128, .f32⟩
  | .hbm, ⟨34, _⟩ => ⟨S2048x128, .f32⟩
  | .hbm, ⟨35, _⟩ => ⟨S_, .f32⟩
  | .hbm, ⟨36, _⟩ => ⟨S2048x128, .f32⟩
  | .hbm, ⟨37, _⟩ => ⟨S2048x128, .f32⟩
  | .hbm, ⟨38, _⟩ => ⟨S_, .f32⟩
  | .hbm, ⟨39, _⟩ => ⟨S2048x128, .f32⟩
  | .hbm, ⟨40, _⟩ => ⟨S2048x128, .f32⟩
  | .hbm, ⟨41, _⟩ => ⟨S2048x128, .f32⟩
  | .hbm, ⟨42, _⟩ => ⟨S2048x128, .f32⟩
  | .hbm, ⟨43, _⟩ => ⟨S2048x128, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S2048x128, .i32⟩
  | .hbm, ⟨48, _⟩ => ⟨S2048x128, .i32⟩
  | .hbm, ⟨49, _⟩ => ⟨S_, .i32⟩
  | .hbm, ⟨50, _⟩ => ⟨S2048x128, .i32⟩
  | .hbm, ⟨51, _⟩ => ⟨S2048x128, .i32⟩
  | .hbm, ⟨52, _⟩ => ⟨S_, .i32⟩
  | .hbm, ⟨53, _⟩ => ⟨S2048x128, .i32⟩
  | .hbm, ⟨54, _⟩ => ⟨S2048x128, .i32⟩
  | .hbm, ⟨55, _⟩ => ⟨S2048x128x1, .f32⟩
  | .hbm, ⟨56, _⟩ => ⟨S4, .f32⟩
  | .hbm, ⟨57, _⟩ => ⟨S1x1x4, .f32⟩
  | .hbm, ⟨58, _⟩ => ⟨S2048x128x4, .f32⟩
  | .hbm, ⟨59, _⟩ => ⟨S2048x128x4, .f32⟩
  | .hbm, ⟨60, _⟩ => ⟨S2048x128x4, .f32⟩
  | .hbm, ⟨61, _⟩ => ⟨S2048x128x4, .f32⟩
  | .hbm, ⟨62, _⟩ => ⟨S2048x128x1, .i32⟩
  | .hbm, ⟨63, _⟩ => ⟨S4, .i32⟩
  | .hbm, ⟨64, _⟩ => ⟨S1x1x4, .i32⟩
  | .hbm, ⟨65, _⟩ => ⟨S2048x128x4, .i32⟩
  | .hbm, ⟨66, _⟩ => ⟨S2048x128x4, .i32⟩
  | .hbm, ⟨67, _⟩ => ⟨S2048x128x4, .i32⟩
  | .hbm, ⟨68, _⟩ => ⟨S128, .i32⟩
  | .hbm, ⟨69, _⟩ => ⟨S1x128x1, .i32⟩
  | .hbm, ⟨70, _⟩ => ⟨S_, .i32⟩
  | .hbm, ⟨71, _⟩ => ⟨S1x128x1, .i32⟩
  | .hbm, ⟨72, _⟩ => ⟨S1x128x1, .i1⟩
  | .hbm, ⟨73, _⟩ => ⟨S_, .i32⟩
  | .hbm, ⟨74, _⟩ => ⟨S1x128x1, .i32⟩
  | .hbm, ⟨75, _⟩ => ⟨S1x128x1, .i32⟩
  | .hbm, ⟨76, _⟩ => ⟨S1x128x1, .i32⟩
  | .hbm, ⟨77, _⟩ => ⟨S_, .i32⟩
  | .hbm, ⟨78, _⟩ => ⟨S2048x128x4, .i32⟩
  | .hbm, ⟨79, _⟩ => ⟨S2048x128x4, .i1⟩
  | .hbm, ⟨80, _⟩ => ⟨S_, .i32⟩
  | .hbm, ⟨81, _⟩ => ⟨S2048x128x4, .i32⟩
  | .hbm, ⟨82, _⟩ => ⟨S2048x128x4, .i32⟩
  | .hbm, ⟨83, _⟩ => ⟨S2048x128x4, .i32⟩
  | .hbm, ⟨84, _⟩ => ⟨S2048x128x4, .i32⟩
  | .hbm, ⟨85, _⟩ => ⟨S2048x128x4x1, .i32⟩
  | .hbm, ⟨86, _⟩ => ⟨S2048x128x4x1, .i32⟩
  | .hbm, ⟨87, _⟩ => ⟨S2048x128x4x2, .i32⟩
  | .hbm, ⟨88, _⟩ => ⟨S128x2048x128x4, .f32⟩
  | .hbm, ⟨89, _⟩ => ⟨S2048x128x128x4, .f32⟩
  | .hbm, ⟨90, _⟩ => ⟨S2048x128x4x128, .f32⟩
  | .hbm, ⟨91, _⟩ => ⟨S2048x128, .f32⟩
  | .hbm, ⟨92, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v7 : Ref sig .tc := ⟨.hbm, 28, rfl⟩
abbrev main_cst_4 : Ref sig .tc := ⟨.hbm, 29, rfl⟩
abbrev main_v8 : Ref sig .tc := ⟨.hbm, 30, rfl⟩
abbrev main_v9 : Ref sig .tc := ⟨.hbm, 31, rfl⟩
abbrev main_cst_5 : Ref sig .tc := ⟨.hbm, 32, rfl⟩
abbrev main_v10 : Ref sig .tc := ⟨.hbm, 33, rfl⟩
abbrev main_v11 : Ref sig .tc := ⟨.hbm, 34, rfl⟩
abbrev main_cst_6 : Ref sig .tc := ⟨.hbm, 35, rfl⟩
abbrev main_v12 : Ref sig .tc := ⟨.hbm, 36, rfl⟩
abbrev main_v13 : Ref sig .tc := ⟨.hbm, 37, rfl⟩
abbrev main_cst_7 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c : Ref sig .tc := ⟨.hbm, 44, rfl⟩
abbrev main_c_8 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v19 : Ref sig .tc := ⟨.hbm, 51, rfl⟩
abbrev main_c_9 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_10 : Ref sig .tc := ⟨.hbm, 70, rfl⟩
abbrev main_v37 : Ref sig .tc := ⟨.hbm, 71, rfl⟩
abbrev main_v38 : Ref sig .tc := ⟨.hbm, 72, rfl⟩
abbrev main_c_11 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_12 : Ref sig .tc := ⟨.hbm, 77, rfl⟩
abbrev main_v42 : Ref sig .tc := ⟨.hbm, 78, rfl⟩
abbrev main_v43 : Ref sig .tc := ⟨.hbm, 79, rfl⟩
abbrev main_c_13 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩

abbrev nD : Nat := 1
abbrev τ : Topo := Topo.v7x

variable {F : FTy → Type} [FloatOps F]
-- ==== Proof.Spec.lean ====
/- What the layer computes, over the extended reals: one feature's spline cell and power basis, the row of the
   result, and the facts about them that both programs use. -/
module

public import Idealize.ShloMosaic.Lib.Pointwise
public import Idealize.ShloMosaic.Lib.Pipeline.ValueKit
public import Idealize.ShloMosaic.PureOps.Ideal.Laws

@[expose] public section

noncomputable section

namespace Cert.Proof.Kan

open Idealize.ShloMosaic

/-- The feature clipped to [-1, 1], measured from the first knot in units of the knot distance. -/
def cell (x : EReal) : EReal :=
  Ideal.div (min 1 (max (Ideal.ofBits .f32 0xBF800000#32) x) - Ideal.ofBits .f32 0xC00CCCCD#32)
    (Ideal.ofBits .f32 0x3ECCCCCD#32)

/-- The position inside the knot interval. -/
def frac (x : EReal) : EReal := cell x - Ideal.liftRound Int.floor (cell x)

/-- The first control point's number, as the word both programs compute. -/
def binWord (x : EReal) : BitVec 32 :=
  IntOp.subi (IntOp.minsi (7#32) (IntOp.maxsi (3#32) (FloatOps.fptosi (F := Ideal) (φ := .f32) 32 (Ideal.liftRound Int.floor (cell x)))))
    3#32

/-- The word is one of 0, …, 4. -/
theorem binWord_lt (x : EReal) : (binWord x).toNat < 5 := by
  unfold binWord
  generalize FloatOps.fptosi (F := Ideal) (φ := .f32) 32 _ = w
  simp only [IntOp.subi, IntOp.minsi, IntOp.maxsi]
  split <;> split <;> simp_all [BitVec.slt, BitVec.toNat_sub, BitVec.toInt_eq_toNat_cond] <;> split_ifs at * <;> omega

/-- The first control point's number. -/
def bin (x : EReal) : Fin 5 := ⟨(binWord x).toNat, binWord_lt x⟩

/-- The word is that number. -/
theorem binWord_eq (x : EReal) : binWord x = BitVec.ofNat 32 (bin x).val := by
  simp [bin]

/-- The power-basis matrix of the cubic uniform B-spline, as single-precision words. -/
def coefWord : Fin 4 → Fin 4 → BitVec 32 :=
  ![![0x3E2AAAAB#32, 0x3F2AAAAB#32, 0x3E2AAAAB#32, 0x00000000#32],
    ![0xBF000000#32, 0x00000000#32, 0x3F000000#32, 0x00000000#32],
    ![0x3F000000#32, 0xBF800000#32, 0x3F000000#32, 0x00000000#32],
    ![0xBE2AAAAB#32, 0x3F000000#32, 0xBF000000#32, 0x3E2AAAAB#32]]

/-- The `j`-th basis function at `u`: the sum over `k` of the coefficient times the `k`-th power. -/
def basis (j : Fin 4) (u : EReal) : EReal := ∑ k : Fin 4, Ideal.ofBits .f32 (coefWord k j) * u ^ k.val

/-- The activation `x / (1 + e^(-x))`, as a product. -/
def silu (x : EReal) : EReal := x * Ideal.logistic x

/-- The feature that output `o` reads its control points of, for basis function `j`. -/
def feat (j : Fin 4) (o : Fin 128) : Fin 128 := ⟨32 * j.val + o.val / 4, by omega⟩

/-- The control point of feature value `x` with offset `o mod 4`. -/
def ctrl (x : EReal) (o : Fin 128) : Fin 8 := ⟨(bin x).val + o.val % 4, by omega⟩

/-- One entry of the layer's result, for a row `x` of features: the activation's product with the base weights, plus
    the basis functions' products with the spline weights at the output's control points. -/
def kan (x : Fin 128 → EReal) (bw : Fin 128 → Fin 128 → EReal) (s : Fin 128 → Fin 128 → Fin 8 → EReal)
    (o : Fin 128) : EReal :=
  (∑ i : Fin 128, silu (x i) * bw o i)
    + ∑ j : Fin 4, ∑ i : Fin 128, basis j (frac (x i)) * s i (feat j o) (ctrl (x (feat j o)) o)

/-- The word of minus one. -/
theorem ofBits_neg_one : Ideal.ofBits .f32 0xBF800000#32 = ((-1 : ℝ) : EReal) := by
  simp [Ideal.ofBits, Ideal.ieee, -EReal.coe_mul]
  norm_num

/-- The first knot is a real. -/
theorem knot_real : ∃ r : ℝ, Ideal.ofBits .f32 0xC00CCCCD#32 = (r : EReal) := by
  simp only [Ideal.ofBits, Ideal.ieee]
  split_ifs
  all_goals first | exact ⟨_, rfl⟩ | simp_all

/-- The knot distance is a real, not zero. -/
theorem dist_real : ∃ r : ℝ, r ≠ 0 ∧ Ideal.ofBits .f32 0x3ECCCCCD#32 = (r : EReal) := by
  refine ⟨(2 ^ 23 + 5033165 : ℕ) * (2 : ℝ) ^ (-25 : ℤ), by positivity, ?_⟩
  simp [Ideal.ofBits, Ideal.ieee, -EReal.coe_mul]

/-- The cell of every extended real is a real. -/
theorem cell_real (x : EReal) : ∃ r : ℝ, cell x = (r : EReal) := by
  obtain ⟨a, ha⟩ := knot_real
  obtain ⟨d, hd, hde⟩ := dist_real
  have hc : ∃ r : ℝ, min 1 (max ((-1 : ℝ) : EReal) x) = (r : EReal) := by
    induction x using EReal.rec with
    | bot => exact ⟨-1, by rw [max_eq_left bot_le]; exact min_eq_right (by exact_mod_cast (by norm_num : (-1 : ℝ) ≤ 1))⟩
    | top => exact ⟨1, by rw [max_eq_right le_top]; simp⟩
    | coe r => exact ⟨min 1 (max (-1) r), by
      rw [Monotone.map_min EReal.coe_strictMono.monotone, Monotone.map_max EReal.coe_strictMono.monotone]; rfl⟩
  obtain ⟨r, hr⟩ := hc
  refine ⟨(r - a) * (1 / d), ?_⟩
  unfold cell
  rw [ofBits_neg_one, hr, ha, hde, Ideal.div_coe hd, ← EReal.coe_sub, ← EReal.coe_mul]

/-- The position inside the interval is a real. -/
theorem frac_real (x : EReal) : ∃ r : ℝ, frac x = (r : EReal) := by
  obtain ⟨r, hr⟩ := cell_real x
  exact ⟨r - ((⌊r⌋ : ℤ) : ℝ), by rw [frac, hr, Ideal.liftRound_coe, EReal.coe_sub]⟩

/-- The float power of the position with a natural exponent is the repeated product. -/
theorem pow_frac (x : EReal) (k : Fin 4) :
    Ideal.pow (frac x) (FloatOps.sitofp (F := Ideal) .f32 (BitVec.ofNat 32 k.val)) = frac x ^ k.val := by
  obtain ⟨r, hr⟩ := frac_real x
  have hk : (FloatOps.sitofp (F := Ideal) .f32 (BitVec.ofNat 32 k.val) : EReal) = ((k.val : ℝ) : EReal) := by
    have : (BitVec.ofNat 32 k.val).toInt = k.val := by
      revert k; decide
    show ((((BitVec.ofNat 32 k.val).toInt : ℤ) : ℝ) : EReal) = _
    rw [this]; simp
  rw [hk, hr, Ideal.pow_coe_coe, ← EReal.coe_pow]
  congr 1
  exact Real.rpow_natCast r k.val

end Cert.Proof.Kan

end
-- ==== Proof.Sums.lean ====
/- Sums over a flattened axis, and the sum against a column of the lane permutation. -/
module

public import Idealize.ShloMosaic.Lib.Pointwise

@[expose] public section

noncomputable section

namespace Cert.Proof.Kan

/-- A sum over `a * b` terms, as the sum over the quotients and remainders by `b`. -/
theorem sum_flat {a b n : Nat} (h : n = a * b) (f : Fin n → EReal) :
    ∑ k, f k = ∑ i : Fin a, ∑ j : Fin b, f ⟨b * i.val + j.val, by
      subst h
      calc b * i.val + j.val < b * i.val + b := Nat.add_lt_add_left j.isLt _
        _ = b * (i.val + 1) := (Nat.mul_succ _ _).symm
        _ ≤ b * a := Nat.mul_le_mul_left _ i.isLt
        _ = a * b := Nat.mul_comm _ _⟩ := by
  subst h
  rw [← Fintype.sum_prod_type', ← Equiv.sum_comp finProdFinEquiv]
  refine Finset.sum_congr rfl fun x _ => congrArg f (Fin.ext ?_)
  simp [finProdFinEquiv, Nat.add_comm]

/-- Four columns of 128 side by side, read at `128 j + i`, are the `j`-th column at `i`. -/
theorem ladder (f : Fin 4 → Fin 128 → EReal) (j : Fin 4) (i : Fin 128) (k : Nat) (hk : k = 128 * j.val + i.val)
    (h3 : ¬ k < 128 → ¬ k - 128 < 128 → ¬ k - 128 - 128 < 128 → k - 128 - 128 - 128 < 128) :
    (if h : k < 128 then f 0 ⟨k, h⟩ else if h' : k - 128 < 128 then f 1 ⟨k - 128, h'⟩ else
      if h'' : k - 128 - 128 < 128 then f 2 ⟨k - 128 - 128, h''⟩
      else f 3 ⟨k - 128 - 128 - 128, h3 h h' h''⟩) = f j i := by
  have hi := i.isLt
  split_ifs with h0 h1 h2
  · exact congrArg₂ f (Fin.ext (by simp only [Fin.val_zero]; omega)) (Fin.ext (by simp only; omega))
  · exact congrArg₂ f (Fin.ext (by simp only [Fin.val_one]; omega)) (Fin.ext (by simp only; omega))
  · exact congrArg₂ f (Fin.ext (by simp only [Fin.val_two]; omega)) (Fin.ext (by simp only; omega))
  · exact congrArg₂ f (Fin.ext (by show 3 = _; omega)) (Fin.ext (by simp only; omega))

/-- The sum of four columns of 128 side by side against `w`, as the sum over the columns. -/
theorem sum_ladder (f : Fin 4 → Fin 128 → EReal) (w : Fin 512 → EReal)
    (h3 : ∀ k : Fin 512, ¬ k.val < 128 → ¬ k.val - 128 < 128 → ¬ k.val - 128 - 128 < 128 → k.val - 128 - 128 - 128 < 128) :
    ∑ k : Fin 512, (if h : k.val < 128 then f 0 ⟨k.val, h⟩ else if h' : k.val - 128 < 128 then f 1 ⟨k.val - 128, h'⟩ else
        if h'' : k.val - 128 - 128 < 128 then f 2 ⟨k.val - 128 - 128, h''⟩
        else f 3 ⟨k.val - 128 - 128 - 128, h3 k h h' h''⟩) * w k
      = ∑ j : Fin 4, ∑ i : Fin 128, f j i * w ⟨128 * j.val + i.val, by omega⟩ := by
  rw [sum_flat (a := 4) (b := 128) (by norm_num)]
  refine Finset.sum_congr rfl fun j _ => Finset.sum_congr rfl fun i _ => congrArg (· * _) ?_
  exact ladder f j i _ rfl (h3 ⟨128 * j.val + i.val, by omega⟩)

/-- The sum of `g r m` against the column `o` of the lane permutation, whose one entries stand where
    `o = 4 (m mod 32) + r`, is the sum over the four lanes `m` with `m mod 32 = o / 4`, at `r = o mod 4`. -/
theorem sum_perm (g : Fin 4 → Fin 128 → EReal) (o : Fin 128) :
    ∑ r : Fin 4, ∑ m : Fin 128, g r m * (if o.val = 4 * (m.val % 32) + r.val then 1 else 0)
      = ∑ j : Fin 4, g ⟨o.val % 4, by omega⟩ ⟨32 * j.val + o.val / 4, by omega⟩ := by
  rw [Finset.sum_eq_single (⟨o.val % 4, by omega⟩ : Fin 4)]
  · rw [sum_flat (a := 4) (b := 32) rfl]
    refine Finset.sum_congr rfl fun j _ => ?_
    rw [Finset.sum_eq_single (⟨o.val / 4, by omega⟩ : Fin 32)]
    · rw [if_pos (by simp only; omega), mul_one]
    · intro q _ hq
      rw [if_neg (fun h => hq (Fin.ext (by simp only at h ⊢; omega))), mul_zero]
    · intro h
      exact absurd (Finset.mem_univ _) h
  · intro r _ hr
    refine Finset.sum_eq_zero fun m _ => ?_
    rw [if_neg (fun h => hr (Fin.ext (by simp only; omega))), mul_zero]
  · intro h
    exact absurd (Finset.mem_univ _) h

end Cert.Proof.Kan

end
-- ==== Proof.Body.lean ====
/- What one grid point computes, from the blocks it reads. -/
module

public import proofs.«01_k».proof.Proof.Gen.KernelIdeal.Frame
public import proofs.«01_k».proof.Proof.Spec
public import proofs.«01_k».proof.Proof.Sums
public import Idealize.ShloMosaic.Lib.Tactic.CleanTypes

@[expose] public section

set_option maxRecDepth 16384

noncomputable section

namespace Cert.Proof.Kan

open Cert.KernelIdeal Cert.KernelIdeal.Gen Idealize.ShloMosaic

variable (x : Vec Ideal S256x128 .f32) (n : Fin 256) (i : Fin 128)

/-- The base product of a block. -/
theorem base_apply (w : Vec Ideal S128x128 .f32) (o : Fin 128) :
    k0_pay2 (F := Ideal) x w (ix2 n o) = ∑ i : Fin 128, silu (x (ix2 n i)) * w (ix2 i o) := by
  pointwise [k0_pay2]
  rfl

/-- The clipped and scaled feature, in a block. -/
theorem cell_apply : k0_pay3 (F := Ideal) x (ix2 n i) = cell (x (ix2 n i)) := by
  pointwise [k0_pay3]
  rfl

/-- The position inside the knot interval, in a block. -/
theorem frac_apply : k0_pay5 (F := Ideal) x (ix2 n i) = frac (x (ix2 n i)) := by
  pointwise [k0_pay5, k0_pay4]
  rw [cell_apply]
  rfl

/-- The first control point's word, in a block. -/
theorem bin_apply : k0_pay6 (F := Ideal) x (ix2 n i) = binWord (x (ix2 n i)) := by
  pointwise [k0_pay6, k0_pay4]
  rw [cell_apply]
  rfl

/-- The second power. -/
theorem sq_apply : k0_pay7 (F := Ideal) x (ix2 n i) = frac (x (ix2 n i)) ^ 2 := by
  pointwise [k0_pay7]
  rw [frac_apply, pow_two]

/-- The third power. -/
theorem cube_apply : k0_pay8 (F := Ideal) x (ix2 n i) = frac (x (ix2 n i)) ^ 3 := by
  pointwise [k0_pay8]
  rw [frac_apply, sq_apply, ← pow_succ]

/-- The first basis function, in a block. -/
theorem basis0_apply : k0_pay9 (F := Ideal) x (ix2 n i) = basis 0 (frac (x (ix2 n i))) := by
  pointwise [k0_pay9]
  rw [frac_apply, sq_apply, cube_apply]
  simp [basis, Fin.sum_univ_four, coefWord]

/-- The `j`-th basis function written out. -/
theorem basis_eq (u : EReal) :
    basis 1 u = Ideal.ofBits .f32 0x3F2AAAAB#32 + 0 * u + Ideal.ofBits .f32 0xBF800000#32 * u ^ 2
        + Ideal.ofBits .f32 0x3F000000#32 * u ^ 3
    ∧ basis 2 u = Ideal.ofBits .f32 0x3E2AAAAB#32 + Ideal.ofBits .f32 0x3F000000#32 * u
        + Ideal.ofBits .f32 0x3F000000#32 * u ^ 2 + Ideal.ofBits .f32 0xBF000000#32 * u ^ 3
    ∧ basis 3 u = 0 * u + 0 * u ^ 2 + Ideal.ofBits .f32 0x3E2AAAAB#32 * u ^ 3 := by
  refine ⟨?_, ?_, ?_⟩ <;> simp [basis, Fin.sum_univ_four, coefWord]

/-- The product of the four basis functions' columns, side by side, with the control-point matrix. -/
theorem col_apply (w : Vec Ideal S512x1024 .f32) (q : Fin 1024) :
    k0_pay12 (F := Ideal) (k0_pay5 x) (k0_pay7 x) (k0_pay8 x) (k0_pay9 x) (k0_pay10 x) k0_pay11 w (ix2 n q)
      = ∑ j : Fin 4, ∑ i : Fin 128, basis j (frac (x (ix2 n i)))
          * w (ix2 (⟨128 * j.val + i.val, by omega⟩ : Fin 512) q) := by
  pointwise [k0_pay12, k0_pay10, k0_pay11]
  simp only [frac_apply, sq_apply, cube_apply, basis0_apply]
  simp only [← (basis_eq _).1, ← (basis_eq _).2.1, ← (basis_eq _).2.2]
  exact sum_ladder (fun j i => basis j (frac (x (ix2 n i)))) (fun k => w (ix2 k q)) _

/-- The same product at column `128 k + m`, where the matrix holds the spline weights `s` in the rows of the basis
    function that reads feature `m`, and zero elsewhere. -/
theorem prod_apply (w : Vec Ideal S512x1024 .f32) (s : Fin 128 → Fin 128 → Fin 8 → EReal)
    (hw : ∀ (j : Fin 4) (i : Fin 128) (k : Fin 8) (m : Fin 128),
      w (ix2 (⟨128 * j.val + i.val, by omega⟩ : Fin 512) (⟨128 * k.val + m.val, by omega⟩ : Fin 1024))
        = if m.val / 32 = j.val then s i m k else 0)
    (k : Fin 8) (m : Fin 128) :
    k0_pay12 (F := Ideal) (k0_pay5 x) (k0_pay7 x) (k0_pay8 x) (k0_pay9 x) (k0_pay10 x) k0_pay11 w
        (ix2 n (⟨128 * k.val + m.val, by omega⟩ : Fin 1024))
      = ∑ i : Fin 128, basis ⟨m.val / 32, by omega⟩ (frac (x (ix2 n i))) * s i m k := by
  rw [col_apply]
  simp only [hw]
  rw [Finset.sum_eq_single (⟨m.val / 32, by omega⟩ : Fin 4)]
  · refine Finset.sum_congr rfl fun i _ => ?_
    rw [if_pos rfl]
  · intro j _ hj
    refine Finset.sum_eq_zero fun i _ => ?_
    rw [if_neg (fun h => hj (Fin.ext h.symm)), mul_zero]
  · intro h
    exact absurd (Finset.mem_univ _) h

end Cert.Proof.Kan

end
-- ==== Proof.Block.lean ====
/- The block of the result that one grid point writes. -/
module

public import proofs.«01_k».proof.Proof.Body

@[expose] public section

set_option maxRecDepth 16384

noncomputable section

namespace Cert.Proof.Kan

open Cert.KernelIdeal Cert.KernelIdeal.Gen Idealize.ShloMosaic

/-- The sum of five terms, each kept where the word is its position and zero elsewhere. -/
def pick (b : BitVec 32) (t0 t1 t2 t3 t4 : EReal) : EReal :=
  Scalar.select (IntOp.cmpi .eq b 0#32) t0 0 + Scalar.select (IntOp.cmpi .eq b 1#32) t1 0
    + Scalar.select (IntOp.cmpi .eq b 2#32) t2 0 + Scalar.select (IntOp.cmpi .eq b 3#32) t3 0
    + Scalar.select (IntOp.cmpi .eq b 4#32) t4 0

/-- It is the term at the word's number. -/
theorem pick_eq (t : Fin 5 → EReal) (b : Fin 5) :
    pick (BitVec.ofNat 32 b.val) (t 0) (t 1) (t 2) (t 3) (t 4) = t b := by
  unfold pick
  fin_cases b <;> simp [Scalar.select, IntOp.cmpi]

/-- The four lane groups of the selected control points: group `r` picks, for each lane, the column with offset `r`. -/
def group (b : Fin 128 → BitVec 32) (P : Fin 1024 → EReal) : Fin 4 → Fin 128 → EReal :=
  ![fun m => pick (b m) (P ⟨m.val, by omega⟩) (P ⟨128 + m.val, by omega⟩) (P ⟨256 + m.val, by omega⟩)
      (P ⟨384 + m.val, by omega⟩) (P ⟨512 + m.val, by omega⟩),
    fun m => pick (b m) (P ⟨128 + m.val, by omega⟩) (P ⟨256 + m.val, by omega⟩) (P ⟨384 + m.val, by omega⟩)
      (P ⟨512 + m.val, by omega⟩) (P ⟨640 + m.val, by omega⟩),
    fun m => pick (b m) (P ⟨256 + m.val, by omega⟩) (P ⟨384 + m.val, by omega⟩) (P ⟨512 + m.val, by omega⟩)
      (P ⟨640 + m.val, by omega⟩) (P ⟨768 + m.val, by omega⟩),
    fun m => pick (b m) (P ⟨384 + m.val, by omega⟩) (P ⟨512 + m.val, by omega⟩) (P ⟨640 + m.val, by omega⟩)
      (P ⟨768 + m.val, by omega⟩) (P ⟨896 + m.val, by omega⟩)]

/-- Group `r` at lane `m` is the product's column `128 (b + r) + m`, `b` being the lane's number. -/
theorem group_eq (b : Fin 128 → Fin 5) (P : Fin 1024 → EReal) (r : Fin 4) (m : Fin 128) :
    group (fun m => BitVec.ofNat 32 (b m).val) P r m = P ⟨128 * ((b m).val + r.val) + m.val, by omega⟩ := by
  have h0 : P ⟨m.val, by omega⟩ = P ⟨128 * 0 + m.val, by omega⟩ := by
    congr 1
    exact Fin.ext (by simp)
  have key := pick_eq (fun s => P ⟨128 * (s.val + r.val) + m.val, by omega⟩) (b m)
  refine Eq.trans ?_ key
  fin_cases r
  · exact congrArg (fun t => pick _ t _ _ _ _) h0
  · rfl
  · rfl
  · rfl

/-- One block of the result, where the block of base weights is `bw` transposed, the control-point matrix holds the
    spline weights in the rows of the basis function that reads each feature, and the last matrix is the lane
    permutation. -/
theorem block_apply (x : Vec Ideal S256x128 .f32) (wbt : Vec Ideal S128x128 .f32) (w : Vec Ideal S512x1024 .f32)
    (p : Vec Ideal S512x128 .f32) (bw : Fin 128 → Fin 128 → EReal) (s : Fin 128 → Fin 128 → Fin 8 → EReal)
    (hb : ∀ i o : Fin 128, wbt (ix2 i o) = bw o i)
    (hw : ∀ (j : Fin 4) (i : Fin 128) (k : Fin 8) (m : Fin 128),
      w (ix2 (⟨128 * j.val + i.val, by omega⟩ : Fin 512) (⟨128 * k.val + m.val, by omega⟩ : Fin 1024))
        = if m.val / 32 = j.val then s i m k else 0)
    (hp : ∀ (r : Fin 4) (m o : Fin 128), p (ix2 (⟨128 * r.val + m.val, by omega⟩ : Fin 512) o)
      = if o.val = 4 * (m.val % 32) + r.val then 1 else 0)
    (n : Fin 256) (o : Fin 128) :
    out0_4 (F := Ideal) x wbt w p (ix2 n o) = kan (fun i => x (ix2 n i)) bw s o := by
  unfold_out out0_4
  frame_out
  pointwise [k0_pay1, k0_pay20, k0_pay21, k0_pay22, k0_pay23, k0_pay24, k0_pay25, k0_pay26, k0_pay27, k0_pay28,
    k0_pay13, k0_pay14, k0_pay15, k0_pay16, k0_pay17, k0_pay18, k0_pay19]
  refine (congrArg₂ (· + ·) (base_apply x n wbt o) (sum_ladder
    (group (fun m => k0_pay6 (F := Ideal) x (ix2 n m)) fun q => k0_pay12 (F := Ideal) (k0_pay5 x) (k0_pay7 x)
      (k0_pay8 x) (k0_pay9 x) (k0_pay10 x) k0_pay11 w (ix2 n q)) (fun k => p (ix2 k o)) _)).trans ?_
  simp only [hp, hb]
  rw [sum_perm]
  unfold kan
  refine congrArg (_ + ·) (Finset.sum_congr rfl fun j _ => ?_)
  simp only [bin_apply, binWord_eq]
  rw [group_eq (fun m => bin (x (ix2 n m)))]
  refine (prod_apply x n w s hw (ctrl (x (ix2 n (feat j o))) o) (feat j o)).trans ?_
  have hj : ∀ h, (⟨(feat j o).val / 32, h⟩ : Fin 4) = j := fun h => Fin.ext (by simp only [feat]; omega)
  simp only [hj]

end Cert.Proof.Kan

end
-- ==== Proof.Lit.lean ====
/- The kernel's literal 512×128 matrix: row `128 r + m` has its only 1 in column `4 (m mod 32) + r`. -/
module

public import proofs.«01_k».proof.KernelIdeal
public import Idealize.ShloMosaic.Lib.Pointwise
public import Mathlib.Tactic.IntervalCases

@[expose] public section

set_option maxRecDepth 16384

namespace Cert.Proof.Kan

open Cert.KernelIdeal Idealize.ShloMosaic

/-- Rows `32 g` to `32 g + 31` of the literal hold what the matrix of ones and zeros has there. -/
abbrev Rows (g : Nat) : Prop := ∀ r : Fin 32, ∀ o : Fin 128, lit0t (128 * (32 * g + r.val) + o.val) =
  if o.val = 4 * r.val + g / 4 then 0x3F800000#32 else 0x00000000#32

set_option maxHeartbeats 20000000 in
/-- Every band of 32 rows does (each band is decided on its own). -/
theorem rows (g : Nat) (hg : g < 16) : Rows g := by
  interval_cases g <;> decide +kernel

/-- The literal's word at row `r`, column `o`: the float 1 when `o = 4 (r mod 32) + r / 128`, else the float 0. -/
theorem lit_word (r : Fin 512) (o : Fin 128) : lit0 (S512x128.rowMajor (ix2 r o)) =
    if o.val = 4 * (r.val % 32) + r.val / 128 then 0x3F800000#32 else 0x00000000#32 := by
  have hi : (S512x128.rowMajor (ix2 r o)).val = 128 * r.val + o.val := by
    refine (Shape.rowMajor_val_two _).trans ?_
    exact congrArg (· + o.val) (Nat.mul_comm r.val 128)
  have h := rows (r.val / 32) (by omega) ⟨r.val % 32, by omega⟩ o
  dsimp only at h
  rw [show 32 * (r.val / 32) + r.val % 32 = r.val by omega, show r.val / 32 / 4 = r.val / 128 by omega, ← hi] at h
  exact h

end Cert.Proof.Kan
-- ==== Proof.Host.lean ====
/- What the arrays the host program prepares for the kernel hold at each index. -/
module

public import proofs.«01_k».proof.Proof.Gen.KernelIdeal.Frame
public import proofs.«01_k».proof.Proof.Lit
public import Idealize.ShloMosaic.Lib.Pointwise
public import Idealize.ShloMosaic.Lib.StableHlo.ReadAt
public import Idealize.ShloMosaic.Lib.Tactic.CleanTypes
public import Idealize.ShloMosaic.Lib.Claim

@[expose] public section

set_option maxRecDepth 16384

noncomputable section

namespace Cert.Proof.Kan

open Cert.KernelIdeal Cert.KernelIdeal.Gen Idealize.ShloMosaic Idealize.SL.Sem

variable (m : (ℓ : Loc nD τ sig) → Buf (Elt Ideal) ℓ) (c : Dev nD)

/-- The transposed base weights at `(i, o)`: the base weight of output `o` at feature `i`. -/
theorem base_weight (i o : Fin 128) : (V m c main_v14 : Vec Ideal S128x128 .f32) (ix2 i o) =
    m ((c.tc : Thread nD τ).loc main_arg1) (ix2 o i) := by
  unfold V
  after_reads_at

/-- A select on a truth bit that says `q` is the branch that `q` picks. -/
theorem select_of {α : Type} (b : BitVec 1) (q : Prop) [Decidable q] (h : b = if q then 1#1 else 0#1) (x z : α) :
    Scalar.select b x z = if q then x else z := by
  subst h
  by_cases hq : q <;> simp [hq, Scalar.select]

/-- The control-point matrix at row `r = 128 j + i`, column `o = 128 k + f`: the control point `k` of input feature `i` and
    `f` when `f` lies in the band `j` of 32 features, and zero otherwise. -/
theorem ctrl_matrix (r : Fin 512) (o : Fin 1024) : (V m c main_v13 : Vec Ideal S512x1024 .f32) (ix2 r o) =
    if o.val % 128 / 32 = r.val / 128 then m ((c.tc : Thread nD τ).loc main_arg2)
      (ix3 (⟨r.val % 128, Nat.mod_lt _ (by decide)⟩ : Fin 128) (⟨o.val % 128, Nat.mod_lt _ (by decide)⟩ : Fin 128)
        (⟨o.val / 128, by omega⟩ : Fin 8)) else (0 : EReal) := by
  unfold V
  after_reads_at
  refine (select_of _ (o.val % 128 / 32 = r.val / 128) ?_ _ _).trans ?_
  · have hr : r.val / 128 < 4 := by omega
    revert hr
    generalize r.val / 128 = q
    revert q o
    decide +kernel
  · congr 1
    simp [constant]

/-- The literal matrix at row `r`, column `o`. -/
theorem perm_apply (r : Fin 512) (o : Fin 128) : (V m c main_cst : Vec Ideal S512x128 .f32) (ix2 r o) =
    if o.val = 4 * (r.val % 32) + r.val / 128 then (1 : EReal) else (0 : EReal) := by
  unfold V
  after_reads_at
  rw [lit_word r o]
  split
  · exact Ideal.ofBits_one_f32
  · exact Ideal.ofBits_zero_f32

end Cert.Proof.Kan

end
-- ==== Proof.KernelValue.lean ====
/- The kernel's result array after its run: at row `n`, output `o`, the layer's value `kan` of row `n` of the input. -/
module

public import proofs.«01_k».proof.Proof.Block
public import proofs.«01_k».proof.Proof.Host
public import proofs.«01_k».proof.Proof.Gen.KernelIdeal.Value
public import Idealize.ShloMosaic.Lib.Pipeline.ValueKit

@[expose] public section

set_option maxRecDepth 16384

noncomputable section

namespace Cert.Proof.Kan

open Cert.KernelIdeal Cert.KernelIdeal.Gen Idealize.ShloMosaic Idealize.SL.Sem

variable (m : (ℓ : Loc nD τ sig) → Buf (Elt Ideal) ℓ) (c : Dev nD)

/-- The layer of the launch contents, at each index of the result. -/
def out : Vec Ideal S2048x128 .f32 := fun y =>
  kan (fun i => m ((c.tc : Thread nD τ).loc main_arg0) (ix2 (y 0 : Fin 2048) i))
    (fun o i => m ((c.tc : Thread nD τ).loc main_arg1) (ix2 o i))
    (fun i f k => m ((c.tc : Thread nD τ).loc main_arg2) (ix3 i f k)) (y 1 : Fin 128)

/-- At grid point `t` the input window is at the `t`-th block of rows. -/
theorem idx0 : ∀ t : Fin cfg0.N, win0_0.index t = ![t.val, 0] :=
  (by decide +kernel : ∀ t : Fin grid0.N, win0_0.index t = ![t.val, 0])

/-- The base-weight window is at its only block. -/
theorem idx1 : ∀ t : Fin cfg0.N, win0_1.index t = ![0, 0] :=
  (by decide +kernel : ∀ t : Fin grid0.N, win0_1.index t = ![0, 0])

/-- The control-point window is at its only block. -/
theorem idx2 : ∀ t : Fin cfg0.N, win0_2.index t = ![0, 0] :=
  (by decide +kernel : ∀ t : Fin grid0.N, win0_2.index t = ![0, 0])

/-- The window of the literal matrix is at its only block. -/
theorem idx3 : ∀ t : Fin cfg0.N, win0_3.index t = ![0, 0] :=
  (by decide +kernel : ∀ t : Fin grid0.N, win0_3.index t = ![0, 0])

/-- At grid point `t` the result window is at the `t`-th block of rows. -/
theorem idx4 : ∀ t : Fin cfg0.N, win0_4.index t = ![t.val, 0] :=
  (by decide +kernel : ∀ t : Fin grid0.N, win0_4.index t = ![t.val, 0])

/-- The block of base weights a grid point reads is the whole array the host prepared. -/
theorem iblk1 (t : Fin cfg0.N) (r : Fin 128) (o : Fin 128) :
    (iblk m c 1 t : Vec Ideal S128x128 .f32) (ix2 r o) = (V m c main_v14 : Vec Ideal S128x128 .f32) (ix2 r o) := by
  blk_simp [iblk, idx1]
  congr 1
  blk_ext [idx1]

/-- The block of control points a grid point reads is the whole matrix the host prepared. -/
theorem iblk2 (t : Fin cfg0.N) (r : Fin 512) (o : Fin 1024) :
    (iblk m c 2 t : Vec Ideal S512x1024 .f32) (ix2 r o) = (V m c main_v13 : Vec Ideal S512x1024 .f32) (ix2 r o) := by
  blk_simp [iblk, idx2]
  congr 1
  blk_ext [idx2]

/-- The block of the literal matrix a grid point reads is the whole literal. -/
theorem iblk3 (t : Fin cfg0.N) (r : Fin 512) (o : Fin 128) :
    (iblk m c 3 t : Vec Ideal S512x128 .f32) (ix2 r o) = (V m c main_cst : Vec Ideal S512x128 .f32) (ix2 r o) := by
  blk_simp [iblk, idx3]
  congr 1
  blk_ext [idx3]

/-- Row `n` of block `t` is a row of the array. -/
theorem row_lt (t : Fin cfg0.N) (n : Fin 256) : 256 * t.val + n.val < 2048 := by
  have ht : t.val < 8 := t.isLt
  omega

/-- Row `n` of the input block at grid point `t` is row `256 t + n` of the input. -/
theorem iblk0 (t : Fin cfg0.N) (n : Fin 256) (i : Fin 128) :
    (iblk m c 0 t : Vec Ideal S256x128 .f32) (ix2 n i) = m ((c.tc : Thread nD τ).loc main_arg0) (ix2 (⟨256 * t.val + n.val, row_lt t n⟩ : Fin 2048) i) := by
  blk_simp [iblk, idx0]
  rw [V_main_arg0]
  congr 1
  blk_ext [idx0]

/-- Row `n` of the result block at grid point `t` is row `256 t + n` of the result. -/
theorem emb4 (t : Fin cfg0.N) (n : Fin 256) (o : Fin 128) : (win0_4.blk t).view.emb (ix2 n o) = ix2 (⟨256 * t.val + n.val, row_lt t n⟩ : Fin 2048) o := by
  blk_ext [idx4]

/-- After the run the result array is the layer of the launch contents. -/
theorem arr_eq : (dats m 0 c).arrAt 4 cfg0.N = out m c := by
  refine (dats m 0 c).arrAt_eq_of_covers 4 _ (by decide +kernel) fun t hf y => ?_
  blk_simp
  rw [after0_4]
  obtain ⟨n, o, rfl⟩ : ∃ (n : Fin 256) (o : Fin 128), y = ix2 n o := ⟨y 0, y 1, by
    funext a; match a with | ⟨0, _⟩ => rfl | ⟨1, _⟩ => rfl⟩
  rw [emb4]
  refine (block_apply _ _ _ _ (fun o i => m ((c.tc : Thread nD τ).loc main_arg1) (ix2 o i))
    (fun i f k => m ((c.tc : Thread nD τ).loc main_arg2) (ix3 i f k))
    (fun i o => (iblk1 m c t i o).trans (base_weight m c i o)) (fun j i k f => ?_) (fun r f o => ?_) n o).trans ?_
  · refine (iblk2 m c t _ _).trans ((ctrl_matrix m c _ _).trans ?_)
    have h1 : (128 * k.val + f.val) % 128 = f.val := by omega
    have h2 : (128 * k.val + f.val) / 128 = k.val := by omega
    have h3 : (128 * j.val + i.val) % 128 = i.val := by omega
    have h4 : (128 * j.val + i.val) / 128 = j.val := by omega
    simp only [h1, h2, h3, h4]
  · refine (iblk3 m c t _ _).trans ((perm_apply m c _ _).trans ?_)
    have h1 : (128 * r.val + f.val) % 32 = f.val % 32 := by omega
    have h2 : (128 * r.val + f.val) / 128 = r.val := by omega
    simp only [h1, h2]
  · unfold out
    congr 1
    funext i
    exact iblk0 m c t n i

end Cert.Proof.Kan

end
-- ==== Proof.RefGather.lean ====
/- The reference's gather of control points, read at an index. -/
module

public import proofs.«01_k».proof.Proof.Gen.ReferenceIdeal
public import Idealize.ShloMosaic.Lib.Pointwise

@[expose] public section

noncomputable section

namespace Cert.Proof.Kan

open Cert.ReferenceIdeal Cert.ReferenceIdeal.Gen Idealize.ShloMosaic

/-- The dimension numbers of the gather. -/
abbrev gdims := gather_S128x128x8_S2048x128x4x2_S128x2048x128x4_0_12_n_n_12_3_12811

/-- The gathered array at `(a, n, i, r)` is the operand at `a` and at the two start indices that stand at
    `(n, i, r)`, each clamped to its axis. -/
theorem gather_apply (s : Vec Ideal S128x128x8 .f32) (idx : IVec S2048x128x4x2 32) (a : Fin 128) (n : Fin 2048)
    (i : Fin 128) (r : Fin 4) :
    Host.gather gdims s idx (ix4 a n i r)
      = s (ix3 a ⟨min (idx (ix4 n i r 0)).toInt.toNat 127, by omega⟩
          ⟨min (idx (ix4 n i r 1)).toInt.toNat 7, by omega⟩) := by
  unfold Host.gather
  congr 1
  funext b
  refine Fin.ext ?_
  show gdims.start (ix4 a n i r) idx b + gdims.batchCoord (ix4 a n i r) b + gdims.offCoord (ix4 a n i r) b = _
  have hs : ∀ k, gdims.siIdx (ix4 a n i r) k = ix4 n i r ⟨k.val, k.isLt⟩ := by
    intro k
    funext d
    refine Fin.ext ?_
    match d with
    | ⟨0, _⟩ => rfl
    | ⟨1, _⟩ => rfl
    | ⟨2, _⟩ => rfl
    | ⟨3, _⟩ => rfl
  rw [GatherDims.batchCoord_eq_zero _ _ _ List.not_mem_nil]
  have hb : b = 0 ∨ b = 1 ∨ b = 2 := by
    revert b
    decide
  rcases hb with rfl | rfl | rfl
  · unfold GatherDims.start GatherDims.offCoord
    rw [dif_neg (by decide), dif_pos (by decide)]
    simp only [Nat.zero_add]
    rfl
  · rw [GatherDims.offCoord_eq_zero _ _ _ (by decide)]
    unfold GatherDims.start
    rw [dif_pos (by decide), hs]
    rfl
  · rw [GatherDims.offCoord_eq_zero _ _ _ (by decide)]
    unfold GatherDims.start
    rw [dif_pos (by decide), hs]
    rfl

end Cert.Proof.Kan

end
-- ==== Proof.RefValue.lean ====
/- The reference's result at an index. -/
module

public import proofs.«01_k».proof.Proof.Gen.ReferenceIdeal.Run
public import proofs.«01_k».proof.Proof.Spec
public import proofs.«01_k».proof.Proof.RefGather
public import Idealize.ShloMosaic.Lib.Tactic.CleanTypes

@[expose] public section

set_option maxRecDepth 16384

noncomputable section

namespace Cert.Proof.Kan

open Cert.ReferenceIdeal Cert.ReferenceIdeal.Gen Cert.ReferenceIdeal.Value Idealize.ShloMosaic Idealize.SL.Sem

/-- Dividing by one changes nothing. -/
theorem div_one_eq (x : EReal) : Ideal.div x 1 = x := by
  have h := Ideal.div_coe (one_ne_zero (α := ℝ)) x
  simpa using h

/-- The words of the reference's literal matrix are the power-basis matrix. -/
theorem lit_basis (k j : Fin 4) : lit0 (S4x4.rowMajor (ix2 k j)) = coefWord k j := by
  revert k j
  decide +kernel

/-- The wrapped and clamped index of a feature is the feature. -/
theorem feat_word (i : Fin 128) :
    min (Scalar.select (IntOp.cmpi .slt (BitVec.ofNat 32 i.val) 0#32)
      (IntOp.addi (BitVec.ofNat 32 i.val) 128#32) (BitVec.ofNat 32 i.val)).toInt.toNat 127 = i.val := by
  revert i
  decide +kernel

/-- The wrapped and clamped index of a control point is the control point's number. -/
theorem ctrl_word (b : Fin 5) (r : Fin 4) :
    min (Scalar.select (IntOp.cmpi .slt (IntOp.addi (BitVec.ofNat 32 b.val) (BitVec.ofNat 32 r.val)) 0#32)
      (IntOp.addi (IntOp.addi (BitVec.ofNat 32 b.val) (BitVec.ofNat 32 r.val)) 8#32)
      (IntOp.addi (BitVec.ofNat 32 b.val) (BitVec.ofNat 32 r.val))).toInt.toNat 7 = b.val + r.val := by
  revert b r
  decide +kernel

/-- The reference's result at row `n`, output `o`. -/
theorem res_apply (m : (ℓ : Loc nD τ sig) → Buf (Elt Ideal) ℓ) (c : Dev nD) (n : Fin 2048) (o : Fin 128) :
    res_out0 m c (ix2 n o)
      = kan (fun i => m ((c.tc : Thread nD τ).loc main_arg0) (ix2 n i))
          (fun o i => m ((c.tc : Thread nD τ).loc main_arg1) (ix2 o i))
          (fun i f k => m ((c.tc : Thread nD τ).loc main_arg2) (ix3 i f k)) o := by
  unfold res_out0 res_main_v55
  clean_types
  simp only [id_eq]
  generalize hI : (concatenate S2048x128x4x2 3 _ _) = idx
  have h0 : ∀ n i r, min (idx (ix4 n i r 0)).toInt.toNat 127 = i.val := by
    intro n i r
    subst hI
    pointwise
    exact feat_word i
  have h1 : ∀ n i r, min (idx (ix4 n i r 1)).toInt.toNat 7
      = (bin (m ((c.tc : Thread nD τ).loc main_arg0) (ix2 n i))).val + r.val := by
    intro n i r
    subst hI
    pointwise
    simp only [div_one_eq]
    rw [← ctrl_word, ← binWord_eq]
    rfl
  clear hI
  pointwise
  simp only [div_one_eq]
  unfold kan
  refine congrArg₂ (· + ·) rfl ?_
  rw [Finset.sum_comm]
  refine Finset.sum_congr rfl fun j _ => Finset.sum_congr rfl fun i _ => congrArg₂ (· * ·) ?_ ?_
  · unfold basis
    refine Finset.sum_congr rfl fun k _ => ?_
    rw [mul_comm, lit_basis]
    exact congrArg _ (pow_frac _ k)
  · refine (gather_apply _ _ _ _ _ _).trans ?_
    have hf : ∀ h, (⟨j.val * 32 + o.val / 4, h⟩ : Fin 128) = feat j o := fun h =>
      Fin.ext (congrArg (· + o.val / 4) (Nat.mul_comm _ _))
    simp only [hf]
    refine congrArg₂ (fun a b => m ((c.tc : Thread nD τ).loc main_arg2) (ix3 i a b)) (Fin.ext ?_) (Fin.ext ?_)
    · exact h0 _ _ _
    · exact h1 _ _ _

end Cert.Proof.Kan

end
-- ==== Proof.lean ====
/- The proof of the certificate's claim: the kernel and the reference run to completion and leave their arguments alone, the
   idealizing pass rewrote nothing, and on the extended reals the two result arrays are equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

/-- The kernel as it is printed: from any memory with zero counters it terminates, its arguments as launched and every
    counter zero. -/
theorem frame_kernel : Cert.quiescent_Kernel (hKernel := Cert.Kernel.Gen.facts) :=
  fun m ρ _ => Cert.Kernel.Gen.frame m ρ

/-- The same of the kernel after the idealizing pass. -/
theorem frame_kernel_ideal : Cert.quiescent_KernelIdeal (hKernelIdeal := Cert.KernelIdeal.Gen.facts) :=
  fun m ρ _ => Cert.KernelIdeal.Gen.frame m ρ

/-- The same of the reference: its run, read at the arguments; it declares no semaphore. -/
theorem frame_reference : Cert.quiescent_ReferenceIdeal (hReferenceIdeal := Cert.ReferenceIdeal.Gen.facts) :=
  fun m ρ _ => (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From equal arguments, the kernel and the reference end with the same result array on the extended reals: both hold the
    layer's value `kan` at every index. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Kan.out m c, ?_, ?_⟩
  · refine (θ_run (Cert.KernelIdeal.defs (F := Ideal)) _ _).mono (fun r h c => ?_)
      (Cert.KernelIdeal.Value.run_blocks (F := Ideal) m g)
    obtain ⟨hv, h0, h1, h2⟩ := h c
    exact ⟨hv.trans (Kan.arr_eq m c), h0, h1, h2⟩
  · refine (θ_run (Cert.ReferenceIdeal.defs (F := Ideal)) _ _).mono (fun r h c => ?_)
      (Cert.ReferenceIdeal.Value.run (F := Ideal) m' g')
    obtain ⟨hv, h0, h1, h2⟩ := h c
    refine ⟨hv.trans ?_, h0, h1, h2⟩
    funext y
    obtain ⟨n, o, rfl⟩ : ∃ (n : Fin 2048) (o : Fin 128), y = ix2 n o := ⟨y 0, y 1, by
      funext a; match a with | ⟨0, _⟩ => rfl | ⟨1, _⟩ => rfl⟩
    refine (Kan.res_apply m' c n o).trans ?_
    rw [(hargs c).1, (hargs c).2.1, (hargs c).2.2]
    rfl

/-- Every claim of the certificate. -/
theorem claim : Cert.Claim := ⟨Cert.Kernel.Gen.facts, Cert.KernelIdeal.Gen.facts, Cert.ReferenceIdeal.Gen.facts,
  frame_kernel, frame_kernel_ideal, frame_reference, trivial, algebraic⟩

end Cert.Proof

end
